-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x128 : Shape := ⟨3, ![16, 256, 128]⟩
abbrev S16x4096x64 : Shape := ⟨3, ![16, 4096, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S64x128 : Shape := ⟨2, ![64, 128]⟩
abbrev S1x128 : Shape := ⟨2, ![1, 128]⟩
abbrev S1x64 : Shape := ⟨2, ![1, 64]⟩
abbrev S1x1 : Shape := ⟨2, ![1, 1]⟩
abbrev S16x8x1x512 : Shape := ⟨4, ![16, 8, 1, 512]⟩
abbrev S16x4096 : Shape := ⟨2, ![16, 4096]⟩
abbrev S1x32x128 : Shape := ⟨3, ![1, 32, 128]⟩
abbrev S1x512x64 : Shape := ⟨3, ![1, 512, 64]⟩
abbrev S1x1x1x512 : Shape := ⟨4, ![1, 1, 1, 512]⟩
abbrev S32x128 : Shape := ⟨2, ![32, 128]⟩
abbrev S512x64 : Shape := ⟨2, ![512, 64]⟩
abbrev S512x128 : Shape := ⟨2, ![512, 128]⟩
abbrev S512x32 : Shape := ⟨2, ![512, 32]⟩
abbrev S512 : Shape := ⟨1, ![512]⟩

abbrev nBuf : Space → Nat
  | .hbm => 16
  | .vmem => 13
  | .smem => 0
  | _ => 0

abbrev bufTy : (tb : Table) → Fin (tcTables nBuf tb) → BufTy
  | .hbm, ⟨0, _⟩ => ⟨S16x256x128, .f32⟩
  | .hbm, ⟨1, _⟩ => ⟨S16x4096x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S128x128, .f32⟩
  | .hbm, ⟨9, _⟩ => ⟨S64x128, .f32⟩
  | .hbm, ⟨10, _⟩ => ⟨S1x128, .f32⟩
  | .hbm, ⟨11, _⟩ => ⟨S1x64, .f32⟩
  | .hbm, ⟨12, _⟩ => ⟨S1x64, .f32⟩
  | .hbm, ⟨13, _⟩ => ⟨S1x1, .f32⟩
  | .hbm, ⟨14, _⟩ => ⟨S16x8x1x512, .f32⟩
  | .hbm, ⟨15, _⟩ => ⟨S16x4096, .f32⟩
  | .local _ .vmem, ⟨0, _⟩ => ⟨S1x32x128, .f32⟩
  | .local _ .vmem, ⟨1, _⟩ => ⟨S1x32x128, .f32⟩
  | .local _ .vmem, ⟨2, _⟩ => ⟨S1x512x64, .f32⟩
  | .local _ .vmem, ⟨3, _⟩ => ⟨S1x512x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S1x64, .f32⟩
  | .local _ .vmem, ⟨10, _⟩ => ⟨S1x1, .f32⟩
  | .local _ .vmem, ⟨11, _⟩ => ⟨S1x1x1x512, .f32⟩
  | .local _ .vmem, ⟨12, _⟩ => ⟨S1x1x1x512, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x256x128 : Shape := ⟨3, ![16, 256, 128]⟩
abbrev S16x4096x64 : Shape := ⟨3, ![16, 4096, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4096 : Shape := ⟨1, ![4096]⟩
abbrev S_ : Shape := ⟨0, ![]⟩
abbrev S4096x1 : Shape := ⟨2, ![4096, 1]⟩
abbrev S1x1 : Shape := ⟨2, ![1, 1]⟩
abbrev S16x4096x128 : Shape := ⟨3, ![16, 4096, 128]⟩
abbrev S16x4096x192 : Shape := ⟨3, ![16, 4096, 192]⟩
abbrev S1x1x128 : Shape := ⟨3, ![1, 1, 128]⟩
abbrev S1x1x64 : Shape := ⟨3, ![1, 1, 64]⟩
abbrev S16x4096x1 : Shape := ⟨3, ![16, 4096, 1]⟩
abbrev S1x1x1 : Shape := ⟨3, ![1, 1, 1]⟩
abbrev S16x4096 : Shape := ⟨2, ![16, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S16x4096x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S16x4096x128, .f32⟩
  | .hbm, ⟨28, _⟩ => ⟨S16x4096x128, .i1⟩
  | .hbm, ⟨29, _⟩ => ⟨S_, .f32⟩
  | .hbm, ⟨30, _⟩ => ⟨S16x4096x128, .f32⟩
  | .hbm, ⟨31, _⟩ => ⟨S16x4096x128, .f32⟩
  | .hbm, ⟨32, _⟩ => ⟨S16x4096x192, .f32⟩
  | .hbm, ⟨33, _⟩ => ⟨S16x4096x128, .f32⟩
  | .hbm, ⟨34, _⟩ => ⟨S1x1x128, .f32⟩
  | .hbm, ⟨35, _⟩ => ⟨S16x4096x128, .f32⟩
  | .hbm, ⟨36, _⟩ => ⟨S16x4096x128, .f32⟩
  | .hbm, ⟨37, _⟩ => ⟨S_, .f32⟩
  | .hbm, ⟨38, _⟩ => ⟨S16x4096x128, .f32⟩
  | .hbm, ⟨39, _⟩ => ⟨S16x4096x128, .f32⟩
  | .hbm, ⟨40, _⟩ => ⟨S16x4096x64, .f32⟩
  | .hbm, ⟨41, _⟩ => ⟨S1x1x64, .f32⟩
  | .hbm, ⟨42, _⟩ => ⟨S16x4096x64, .f32⟩
  | .hbm, ⟨43, _⟩ => ⟨S16x4096x64, .f32⟩
  | .hbm, ⟨44, _⟩ => ⟨S_, .f32⟩
  | .hbm, ⟨45, _⟩ => ⟨S16x4096x64, .f32⟩
  | .hbm, ⟨46, _⟩ => ⟨S16x4096x64, .f32⟩
  | .hbm, ⟨47, _⟩ => ⟨S16x4096x1, .f32⟩
  | .hbm, ⟨48, _⟩ => ⟨S1x1x1, .f32⟩
  | .hbm, ⟨49, _⟩ => ⟨S16x4096x1, .f32⟩
  | .hbm, ⟨50, _⟩ => ⟨S16x4096x1, .f32⟩
  | .hbm, ⟨51, _⟩ => ⟨S16x4096, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_call1_cst : Ref sig .tc := ⟨.hbm, 37, rfl⟩
abbrev main_call1_v0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call2_cst : Ref sig .tc := ⟨.hbm, 44, rfl⟩
abbrev main_call2_v0 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩

abbrev nD : Nat := 1
abbrev τ : Topo := Topo.v7x

variable {F : FTy → Type} [FloatOps F]
-- ==== Proof.Slot.lean ====
/- Which instance owns a metric slot, and the two upper layers over a slot's first layer: what both programs compute. -/
module

public import proofs.«01_k».proof.Proof.Gen.ReferenceIdeal
public import Idealize.ShloMosaic.PureOps.Ideal
public import Idealize.ShloMosaic.Lib.Pointwise

@[expose] public section

set_option maxRecDepth 16384

noncomputable section

namespace Cert.Math

open Idealize.ShloMosaic

/-- The position inside a group of 64 slots picks one of its four instances, whose shares are 8, 16, 24 and 16 slots. -/
def part (o : Nat) : Nat := if o < 8 then 0 else if o < 24 then 1 else if o < 48 then 2 else 3

/-- The instance that owns slot `t`: four instances for each group of 64 slots. -/
def ownerNat (t : Nat) : Nat := 4 * (t / 64) + part (t % 64)

/-- A part is one of four. -/
theorem part_lt (o : Nat) : part o < 4 := by unfold part; split_ifs <;> omega

/-- The owners of `n` groups are among the first `4 * n` instances. -/
theorem ownerNat_lt {t n : Nat} (h : t < 64 * n) : ownerNat t < 4 * n := by
  have := part_lt (t % 64)
  unfold ownerNat; omega

/-- The owner of one of the 4096 slots, among the 256 instances. -/
def owner (t : Fin 4096) : Fin 256 := ⟨ownerNat t.val, ownerNat_lt (n := 64) t.isLt⟩

/-- The constant table of the reference holds every slot's owner. -/
theorem table_eq : ∀ t : Fin 4096, Cert.ReferenceIdeal.lit0 t = BitVec.ofNat 32 (ownerNat t.val) := by
  decide +kernel

/-- The second and the output layer over the first layer's 128 sums `pre`, before their relu. -/
def upper (pre : Fin 128 → EReal) (W2 : Fin 128 → Fin 64 → EReal) (b2 w3 : Fin 64 → EReal) (b3 : EReal) : EReal :=
  ∑ k, max (∑ j, max (pre j) 0 * W2 j k + b2 k) 0 * w3 k + b3

/-- What slot `s` of batch `b` gets: the first layer reads the 128 features of the slot's owner through the upper 128 rows of `W1` and the
    slot's own 64 features through the lower 64 rows. -/
def slot (H : FVec Ideal ⟨3, ![16, 256, 128]⟩ .f32) (E : FVec Ideal ⟨3, ![16, 4096, 64]⟩ .f32) (W1 : FVec Ideal ⟨2, ![192, 128]⟩ .f32)
    (b1 : FVec Ideal ⟨1, ![128]⟩ .f32) (W2 : FVec Ideal ⟨2, ![128, 64]⟩ .f32) (b2 : FVec Ideal ⟨1, ![64]⟩ .f32)
    (W3 : FVec Ideal ⟨2, ![64, 1]⟩ .f32) (b3 : FVec Ideal ⟨1, ![1]⟩ .f32) (b : Fin 16) (s : Fin 4096) : EReal :=
  upper (fun j => ∑ d : Fin 128, H (ix3 b (owner s) d) * W1 (ix2 ⟨d.val, by omega⟩ j)
        + ∑ e : Fin 64, E (ix3 b s e) * W1 (ix2 ⟨128 + e.val, by omega⟩ j) + b1 (ix1 j))
    (fun j k => W2 (ix2 j k)) (fun k => b2 (ix1 k)) (fun k => W3 (ix2 k 0)) (b3 (ix1 0))

end Cert.Math
end
-- ==== Proof.BlockValue.lean ====
/- One grid point of the kernel: what its block of 512 slots holds. -/
module

public import proofs.«01_k».proof.Proof.Gen.KernelIdeal.Frame
public import proofs.«01_k».proof.Proof.Slot
public import Idealize.ShloMosaic.PureOps.Ideal
public import Idealize.ShloMosaic.Lib.Pointwise

@[expose] public section

set_option maxRecDepth 16384

noncomputable section

namespace Cert.KernelIdeal.Math

open Cert.KernelIdeal Cert.KernelIdeal.Gen Idealize.ShloMosaic Cert.Math

/-- The kernel's divisor: 64, or 1 had 64 been zero. -/
def divisor : BitVec 32 := Scalar.select (Scalar.cmpi CmpIPredicate.eq 64#32 0#32) 1#32 64#32

/-- The kernel's floor remainder of a word by the divisor. -/
def remWord (n : BitVec 32) : BitVec 32 :=
  Scalar.select
    (IntOp.andi (IntOp.xori (IntOp.cmpi .slt (IntOp.remsi .vector n divisor) 0#32) (Scalar.cmpi .slt divisor 0#32))
      (IntOp.cmpi .ne (IntOp.remsi .vector n divisor) 0#32))
    (IntOp.addi (IntOp.remsi .vector n divisor) divisor) (IntOp.remsi .vector n divisor)

/-- The kernel's count of the bounds 8, 24 and 48 that a position has reached. -/
def partWord (m : BitVec 32) : BitVec 32 :=
  IntOp.addi (IntOp.addi (BitVec.setWidth 32 (IntOp.cmpi .sge m 8#32)) (BitVec.setWidth 32 (IntOp.cmpi .sge m 24#32)))
    (BitVec.setWidth 32 (IntOp.cmpi .sge m 48#32))

/-- The kernel's floor quotient of a word by 64. -/
def quotWord (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- On the 512 rows the floor remainder is the remainder by 64. -/
theorem remWord_eq : ∀ r : Fin 512, remWord (BitVec.ofNat 32 r.val) = BitVec.ofNat 32 (r.val % 64) := by decide +kernel

/-- On the 64 positions of a group the count of reached bounds is the part. -/
theorem partWord_eq : ∀ o : Fin 64, partWord (BitVec.ofNat 32 o.val) = BitVec.ofNat 32 (part o.val) := by decide +kernel

/-- On the 512 rows the floor quotient is the quotient by 64. -/
theorem quotWord_eq : ∀ r : Fin 512, quotWord (BitVec.ofNat 32 r.val) = BitVec.ofNat 32 (r.val / 64) := by decide +kernel

/-- The word the kernel compares with a column, in row `r`. -/
def ownerWord (n : BitVec 32) : BitVec 32 := IntOp.addi (IntOp.muli 4#32 (quotWord n)) (partWord (remWord n))

/-- Row `r`'s word is the row's owner, counted inside the block. -/
theorem ownerWord_eq (r : Fin 512) : ownerWord (BitVec.ofNat 32 r.val) = BitVec.ofNat 32 (ownerNat r.val) := by
  have hp := partWord_eq ⟨r.val % 64, Nat.mod_lt _ (by decide)⟩
  unfold ownerWord
  rw [remWord_eq, quotWord_eq]
  show IntOp.addi _ (partWord (BitVec.ofNat 32 (r.val % 64))) = _
  rw [hp]
  show BitVec.ofNat 32 4 * BitVec.ofNat 32 (r.val / 64) + BitVec.ofNat 32 (part (r.val % 64)) = _
  rw [← BitVec.ofNat_mul, ← BitVec.ofNat_add]
  rfl

/-- The kernel's positions inside a group. -/
theorem pay4_at (r : Fin 512) (k : Fin 32) : k0_pay4 (ix2 r k) = remWord (BitVec.ofNat 32 r.val) := by
  pointwise [k0_pay4]
  rfl

/-- The kernel's counts of reached bounds. -/
theorem share_at (r : Fin 512) (k : Fin 32) :
    IntOp.addi (k0_pay5 (ix2 r k)) (BitVec.setWidth 32 (k0_pay6 (ix2 r k))) = partWord (remWord (BitVec.ofNat 32 r.val)) := by
  have h := pay4_at r k
  pointwise [k0_pay5, k0_pay6]
  rw [h]
  rfl

/-- The comparison of two numbers below 32, as a word. -/
theorem eqWord : ∀ p q : Fin 32, BitVec.setWidth 32 (IntOp.cmpi .eq (BitVec.ofNat 32 p.val) (BitVec.ofNat 32 q.val))
    = if p = q then 1#32 else 0#32 := by decide +kernel

/-- The comparison of two numbers below 32, as a number: one where they agree, zero elsewhere. -/
theorem mark (p q : Fin 32) :
    (FloatOps.sitofp FTy.f32 (BitVec.setWidth 32 (IntOp.cmpi .eq (BitVec.ofNat 32 p.val) (BitVec.ofNat 32 q.val))) : Ideal .f32)
      = if p = q then (1 : EReal) else 0 := by
  rw [eqWord]
  split
  · show (((1#32 : BitVec 32).toInt : ℝ) : EReal) = 1
    rw [show (1#32 : BitVec 32).toInt = 1 from rfl]; simp
  · show (((0#32 : BitVec 32).toInt : ℝ) : EReal) = 0
    rw [show (0#32 : BitVec 32).toInt = 0 from rfl]; simp

/-- The owner of row `r` among the 32 instances of its block. -/
def rowOwner (r : Fin 512) : Fin 32 := ⟨ownerNat r.val, ownerNat_lt (n := 8) r.isLt⟩

/-- The product with the marks keeps the owner's term. -/
theorem mark_sum (r : Fin 512) (f : Fin 32 → EReal) :
    ∑ k : Fin 32, (FloatOps.sitofp FTy.f32 (BitVec.setWidth 32 (IntOp.cmpi .eq (ownerWord (BitVec.ofNat 32 r.val)) (BitVec.ofNat 32 k.val))) : Ideal .f32) * f k
      = f (rowOwner r) := by
  rw [ownerWord_eq, Finset.sum_eq_single (rowOwner r)]
  · rw [show ownerNat r.val = (rowOwner r).val from rfl, mark, if_pos rfl]
    exact one_mul _
  · intro k _ hk
    rw [show ownerNat r.val = (rowOwner r).val from rfl, mark, if_neg (Ne.symm hk)]
    exact zero_mul _
  · intro h
    exact absurd (Finset.mem_univ _) h

/-- Row `r` of a block: the three layers over the owner's features and the slot's own. -/
theorem block_at (H : FVec Ideal S1x32x128 .f32) (E : FVec Ideal S1x512x64 .f32) (wh : FVec Ideal S128x128 .f32) (we : FVec Ideal S64x128 .f32)
    (b1 : FVec Ideal S1x128 .f32) (w2 : FVec Ideal S128x64 .f32) (b2 : FVec Ideal S1x64 .f32) (w3 : FVec Ideal S1x64 .f32) (b3 : FVec Ideal S1x1 .f32)
    (r : Fin 512) :
    k0_pay1 (F := Ideal) (k0_pay7 (F := Ideal) (k0_pay2 (F := Ideal) H wh) (k0_pay3 (F := Ideal) E we) (iota .tc S512x32 32 [0] iota_S512x32_d0_w32) (iota .tc S512x32 32 [1] iota_S512x32_d1_w32) k0_pay5 k0_pay6 b1 w2) b2 w3 b3
      (ix4 0 0 0 r)
      = upper (fun j => ∑ d : Fin 128, H (ix3 0 (rowOwner r) d) * wh (ix2 d j) + ∑ e : Fin 64, E (ix3 0 r e) * we (ix2 e j) + b1 (ix2 0 j))
          (fun j k => w2 (ix2 j k)) (fun k => b2 (ix2 0 k)) (fun k => w3 (ix2 0 k)) (b3 (ix2 0 0)) := by
  pointwise [k0_pay1, k0_pay2, k0_pay3, k0_pay7]
  simp only [share_at]
  unfold upper
  refine congrArg (· + b3 (ix2 0 0)) (Finset.sum_congr rfl fun k _ => congrArg (fun z => max z 0 * w3 (ix2 0 k))
    (congrArg (· + b2 (ix2 0 k)) (Finset.sum_congr rfl fun j _ => congrArg (fun z => max z 0 * w2 (ix2 j k))
      (congrArg (· + b1 (ix2 0 j)) (congrArg (· + ∑ e : Fin 64, E (ix3 0 r e) * we (ix2 e j)) ?_)))))
  exact mark_sum r fun i => ∑ d : Fin 128, H (ix3 0 i d) * wh (ix2 d j)

end Cert.KernelIdeal.Math
end
-- ==== Proof.ArrayValue.lean ====
/- The kernel's result array: every grid point writes one block of 512 slots, and the last host line flattens them. -/
module

public import proofs.«01_k».proof.Proof.BlockValue
public import Idealize.ShloMosaic.Lib.Pipeline.ValueKit
public import Idealize.ShloMosaic.Lib.Claim

@[expose] public section

set_option maxRecDepth 16384

noncomputable section

namespace Cert.KernelIdeal.Math

open Cert.KernelIdeal Cert.KernelIdeal.Gen Idealize.ShloMosaic Idealize.ShloMosaic.TcCoe Idealize.SL.Sem Cert.Math

variable (m : (ℓ : Loc nD τ sig) → Buf (Elt Ideal) ℓ)

/-- The upper 128 rows of the first weights, as the host cuts them. -/
theorem entry2 (c : Dev nD) (d j : Fin 128) : V m c main_call0_v0 (ix2 d j) = m ((c : Thread nD τ).loc main_arg2) (ix2 ⟨d.val, by omega⟩ j) := by
  have e : V m c main_call0_v0 = extractStridedSlice S128x128 ![0, 0] (m ((c : Thread nD τ).loc main_arg2)) slices_S192x128_S128x128_0_0 := by
    unfold V V0 hostOps0
    simp only [List.flatten_cons, List.flatten_nil, List.append_nil, List.cons_append, List.nil_append]
    after_results
    rfl
  rw [e]
  pointwise []

/-- The lower 64 rows of the first weights, as the host cuts them. -/
theorem entry3 (c : Dev nD) (d : Fin 64) (j : Fin 128) : V m c main_call0_v1 (ix2 d j) = m ((c : Thread nD τ).loc main_arg2) (ix2 ⟨128 + d.val, by omega⟩ j) := by
  have e : V m c main_call0_v1 = extractStridedSlice S64x128 ![128, 0] (m ((c : Thread nD τ).loc main_arg2)) slices_S192x128_S64x128_128_0 := by
    unfold V V0 hostOps0
    simp only [List.flatten_cons, List.flatten_nil, List.append_nil, List.cons_append, List.nil_append]
    after_results
    rfl
  rw [e]
  pointwise []

/-- The first bias as a row. -/
theorem entry4 (c : Dev nD) (j : Fin 128) : V m c main_call0_v2 (ix2 0 j) = m ((c : Thread nD τ).loc main_arg3) (ix1 j) := by
  have e : V m c main_call0_v2 = shapeCast S1x128 (m ((c : Thread nD τ).loc main_arg3)) shapeCasts_S128_S1x128 := by
    unfold V V0 hostOps0
    simp only [List.flatten_cons, List.flatten_nil, List.append_nil, List.cons_append, List.nil_append]
    after_results
    rfl
  rw [e]
  pointwise []

/-- The second bias as a row. -/
theorem entry6 (c : Dev nD) (k : Fin 64) : V m c main_call0_v3 (ix2 0 k) = m ((c : Thread nD τ).loc main_arg5) (ix1 k) := by
  have e : V m c main_call0_v3 = shapeCast S1x64 (m ((c : Thread nD τ).loc main_arg5)) shapeCasts_S64_S1x64 := by
    unfold V V0 hostOps0
    simp only [List.flatten_cons, List.flatten_nil, List.append_nil, List.cons_append, List.nil_append]
    after_results
    rfl
  rw [e]
  pointwise []

/-- The output weights as a row. -/
theorem entry7 (c : Dev nD) (k : Fin 64) : V m c main_call0_v4 (ix2 0 k) = m ((c : Thread nD τ).loc main_arg6) (ix2 k 0) := by
  have e : V m c main_call0_v4 = shapeCast S1x64 (m ((c : Thread nD τ).loc main_arg6)) shapeCasts_S64x1_S1x64 := by
    unfold V V0 hostOps0
    simp only [List.flatten_cons, List.flatten_nil, List.append_nil, List.cons_append, List.nil_append]
    after_results
    rfl
  rw [e]
  pointwise []

/-- The output bias as a 1 by 1 array. -/
theorem entry8 (c : Dev nD)  : V m c main_call0_v5 (ix2 0 0) = m ((c : Thread nD τ).loc main_arg7) (ix1 0) := by
  have e : V m c main_call0_v5 = shapeCast S1x1 (m ((c : Thread nD τ).loc main_arg7)) shapeCasts_S1_S1x1 := by
    unfold V V0 hostOps0
    simp only [List.flatten_cons, List.flatten_nil, List.append_nil, List.cons_append, List.nil_append]
    after_results
    rfl
  rw [e]
  pointwise []

/-- Where each window's block lies at grid point `t`: batch `t / 8`, tile `t % 8`; the weights are whole. -/
theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 8, t.val % 8, 0, 0] :=
  (by decide +kernel : ∀ t : Fin grid0.N, _)

/-- A block's read of the instances' features. -/
theorem read0 (c : Dev nD) (t : Fin cfg0.N) (k : Fin 32) (d : Fin 128) (b : Fin 16) (q : Fin 256) (hb : b.val = t.val / 8)
    (hq : q.val = 32 * (t.val % 8) + k.val) : iblk m c 0 t (ix3 0 k d) = m ((c : Thread nD τ).loc main_arg0) (ix3 b q d) := by
  rw [← V_main_arg0 m c]
  blk_ext [iblk, idx t]

/-- A block's read of the slots' own features. -/
theorem read1 (c : Dev nD) (t : Fin cfg0.N) (r : Fin 512) (e : Fin 64) (b : Fin 16) (s : Fin 4096) (hb : b.val = t.val / 8)
    (hs : s.val = 512 * (t.val % 8) + r.val) : iblk m c 1 t (ix3 0 r e) = m ((c : Thread nD τ).loc main_arg1) (ix3 b s e) := by
  rw [← V_main_arg1 m c]
  blk_ext [iblk, idx t]

/-- A block's read of the upper first weights. -/
theorem read2 (c : Dev nD) (t : Fin cfg0.N) (d j : Fin 128) : iblk m c 2 t (ix2 d j) = m ((c : Thread nD τ).loc main_arg2) (ix2 ⟨d.val, by omega⟩ j) := by
  rw [← entry2 m c d j]
  blk_ext [iblk, idx t]

/-- A block's read of the lower first weights. -/
theorem read3 (c : Dev nD) (t : Fin cfg0.N) (d : Fin 64) (j : Fin 128) : iblk m c 3 t (ix2 d j) = m ((c : Thread nD τ).loc main_arg2) (ix2 ⟨128 + d.val, by omega⟩ j) := by
  rw [← entry3 m c d j]
  blk_ext [iblk, idx t]

/-- A block's read of the first bias. -/
theorem read4 (c : Dev nD) (t : Fin cfg0.N) (j : Fin 128) : iblk m c 4 t (ix2 0 j) = m ((c : Thread nD τ).loc main_arg3) (ix1 j) := by
  rw [← entry4 m c j]
  blk_ext [iblk, idx t]

/-- A block's read of the second weights. -/
theorem read5 (c : Dev nD) (t : Fin cfg0.N) (j : Fin 128) (k : Fin 64) : iblk m c 5 t (ix2 j k) = m ((c : Thread nD τ).loc main_arg4) (ix2 j k) := by
  rw [← V_main_arg4 m c]
  blk_ext [iblk, idx t]

/-- A block's read of the second bias. -/
theorem read6 (c : Dev nD) (t : Fin cfg0.N) (k : Fin 64) : iblk m c 6 t (ix2 0 k) = m ((c : Thread nD τ).loc main_arg5) (ix1 k) := by
  rw [← entry6 m c k]
  blk_ext [iblk, idx t]

/-- A block's read of the output weights. -/
theorem read7 (c : Dev nD) (t : Fin cfg0.N) (k : Fin 64) : iblk m c 7 t (ix2 0 k) = m ((c : Thread nD τ).loc main_arg6) (ix2 k 0) := by
  rw [← entry7 m c k]
  blk_ext [iblk, idx t]

/-- A block's read of the output bias. -/
theorem read8 (c : Dev nD) (t : Fin cfg0.N)  : iblk m c 8 t (ix2 0 0) = m ((c : Thread nD τ).loc main_arg7) (ix1 0) := by
  rw [← entry8 m c]
  blk_ext [iblk, idx t]

/-- The slot values laid out as the kernel's array: 8 tiles of 512 slots for each batch. -/
def cells (H : FVec Ideal S16x256x128 .f32) (E : FVec Ideal S16x4096x64 .f32) (W1 : FVec Ideal S192x128 .f32) (b1 : FVec Ideal S128 .f32)
    (W2 : FVec Ideal S128x64 .f32) (b2 : FVec Ideal S64 .f32) (W3 : FVec Ideal S64x1 .f32) (b3 : FVec Ideal S1 .f32) :
    FVec Ideal S16x8x1x512 .f32 :=
  fun i => slot H E W1 b1 W2 b2 W3 b3 (i 0) ⟨512 * (i 1).val + (i 3).val, by
    have h1 : (i 1).val < 8 := (i 1).isLt
    have h3 : (i 3).val < 512 := (i 3).isLt
    omega⟩

/-- A slot's owner is its row's owner, counted from the tile's first instance. -/
theorem owner_tile (u r : Nat) : ownerNat (512 * u + r) = 32 * u + ownerNat r := by
  have h1 : (512 * u + r) / 64 = 8 * u + r / 64 := by omega
  have h2 : (512 * u + r) % 64 = r % 64 := by omega
  unfold ownerNat
  rw [h1, h2]
  omega

/-- The kernel's argument arrays put into `cells`. -/
abbrev result (c : Dev nD) : FVec Ideal S16x8x1x512 .f32 :=
  cells (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What grid point `t` computes in row `r` is the slot value of batch `t / 8`, slot `512 * (t % 8) + r`. -/
theorem point (c : Dev nD) (t : Fin cfg0.N) (r : Fin 512) (b : Fin 16) (s : Fin 4096) (hb : b.val = t.val / 8)
    (hs : s.val = 512 * (t.val % 8) + r.val) :
    k0_pay1 (F := Ideal) (k0_pay7 (F := Ideal) (k0_pay2 (F := Ideal) (iblk m c 0 t) (iblk m c 2 t)) (k0_pay3 (F := Ideal) (iblk m c 1 t) (iblk m c 3 t))
        (iota .tc S512x32 32 [0] iota_S512x32_d0_w32) (iota .tc S512x32 32 [1] iota_S512x32_d1_w32) k0_pay5 k0_pay6 (iblk m c 4 t) (iblk m c 5 t))
      (iblk m c 6 t) (iblk m c 7 t) (iblk m c 8 t) (ix4 0 0 0 r)
      = slot (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b s := by
  have ho : (owner s).val = 32 * (t.val % 8) + (rowOwner r).val := by
    show ownerNat s.val = 32 * (t.val % 8) + ownerNat r.val
    rw [hs, owner_tile]
  refine (block_at _ _ _ _ _ _ _ _ _ r).trans ?_
  simp only [fun d => read0 m c t (rowOwner r) d b (owner s) hb ho, fun e => read1 m c t r e b s hb hs, read2, read3, read4, read5, read6, read7,
    read8]
  rfl

/-- The same at the array index where the row lies. -/
theorem point_cell (c : Dev nD) (t : Fin cfg0.N) (r : Fin 512) (i : S16x8x1x512.Idx) (h0 : (i 0).val = t.val / 8) (h1 : (i 1).val = t.val % 8)
    (h3 : (i 3).val = r.val) :
    k0_pay1 (F := Ideal) (k0_pay7 (F := Ideal) (k0_pay2 (F := Ideal) (iblk m c 0 t) (iblk m c 2 t)) (k0_pay3 (F := Ideal) (iblk m c 1 t) (iblk m c 3 t))
        (iota .tc S512x32 32 [0] iota_S512x32_d0_w32) (iota .tc S512x32 32 [1] iota_S512x32_d1_w32) k0_pay5 k0_pay6 (iblk m c 4 t) (iblk m c 5 t))
      (iblk m c 6 t) (iblk m c 7 t) (iblk m c 8 t) (ix4 0 0 0 r) = result m c i :=
  point m c t r (i 0) ⟨512 * (i 1).val + (i 3).val, by omega⟩ h0 (by
    show 512 * (i 1).val + (i 3).val = 512 * (t.val % 8) + r.val
    rw [h1, h3])

/-- The pipeline's result array after the run. -/
theorem final (c : Dev nD) : (dats m 0 c).arrAt 9 (cfgs 0).N = result m c := by
  refine (dats m 0 c).arrAt_eq_of_covers 9 _ (by decide +kernel) fun t _ y => ?_
  blk_simp
  rw [after0_9]
  frame_out
  idx_vars y
  obtain rfl : y0 = 0 := Subsingleton.elim _ _
  obtain rfl : y1 = 0 := Subsingleton.elim _ _
  obtain rfl : y2 = 0 := Subsingleton.elim _ _
  refine point_cell m c t y3 _ ?_ ?_ ?_
  · blk_simp [idx t]
    rfl
  · blk_simp [idx t]
    rfl
  · blk_simp [idx t]

/-- What the run leaves in the kernel's result: the slot values, flattened. -/
theorem tail (c : Dev nD) : Pipeline.afterTail₀ cfgs (dats m) 0 (V0 m) [hostOps1] c main_v0
    = shapeCast S16x4096 (result m c) shapeCasts_S16x8x1x512_S16x4096 := by
  unfold Pipeline.afterTail₀ hostOps1
  simp only [List.flatten_cons, List.flatten_nil, List.append_nil, List.cons_append, List.nil_append]
  after_results
  have e : Pipeline.withArrays (cfgs 0).spec c (V0 m c) (fun w => (dats m 0 c).arrAt w (cfgs 0).N) (Proc.devRef .tc main_call0_v6) = result m c :=
    (Pipeline.withArrays_arr spec0 (by decide) c (V0 m c) (fun w => (dats m 0 c).arrAt w (cfgs 0).N) 9).trans (final m c)
  exact congrArg (fun v => shapeCast S16x4096 v shapeCasts_S16x8x1x512_S16x4096) e

end Cert.KernelIdeal.Math
end
-- ==== Proof.RefValue.lean ====
/- The reference at one slot: it takes the features of the slot's owner and puts them through the three layers. -/
module

public import proofs.«01_k».proof.Proof.Gen.ReferenceIdeal.Run
public import proofs.«01_k».proof.Proof.Slot
public import Idealize.ShloMosaic.PureOps.Ideal
public import Idealize.ShloMosaic.Lib.Pointwise

@[expose] public section

set_option maxRecDepth 16384

noncomputable section

namespace Cert.ReferenceIdeal.Math

open Cert.ReferenceIdeal Cert.ReferenceIdeal.Gen Idealize.ShloMosaic Cert.Math

/-- The reference's table of start rows, after its handling of negative rows. -/
abbrev rows : IVec S4096x1 32 :=
  broadcastInDim S4096x1 ![0] bcast_S4096_S4096x1_0 (select (cmpi .slt ((fun i => lit0 (S4096.rowMajor i))) (broadcastInDim S4096 ![] bcast_S_S4096 (constantI S_ 32 0#32))) (addi ((fun i => lit0 (S4096.rowMajor i))) (broadcastInDim S4096 ![] bcast_S_S4096 (constantI S_ 32 256#32))) ((fun i => lit0 (S4096.rowMajor i))))

/-- The reference's test that every start row lies inside the array. -/
abbrev inside : IVec S4096 1 :=
  Host.reduce IntOp.andi (andi (cmpi .sge rows (broadcastInDim S4096x1 ![] bcast_S_S4096x1 (constantI S_ 32 0#32))) (cmpi .sle rows (broadcastInDim S4096x1 ![0, 1] bcast_S1x1_S4096x1_0_1 (broadcastInDim S1x1 ![1] bcast_S1_S1x1_1 (constantI S1 32 255#32))))) (constantI S_ 1 1#1) reducesTo_S4096x1_S4096_d1 h_S_

/-- A number below 256 passes the reference's three tests of a row. -/
theorem row_tests : ∀ n : Fin 256, IntOp.cmpi .slt (BitVec.ofNat 32 n.val) 0#32 = 0#1 ∧ IntOp.cmpi .sge (BitVec.ofNat 32 n.val) 0#32 = 1#1
    ∧ IntOp.cmpi .sle (BitVec.ofNat 32 n.val) 255#32 = 1#1 ∧ (BitVec.ofNat 32 n.val).toInt.toNat = n.val := by
  decide +kernel

/-- The place of a slot in the table's storage is the slot. -/
theorem place (t : Fin 4096) : S4096.rowMajor (ix1 t) = t := Fin.ext (Shape.rowMajor_val_one (ix1 t))

/-- The start row of slot `t` is its owner. -/
theorem rows_at (t : Fin 4096) : rows (ix2 t 0) = BitVec.ofNat 32 (owner t).val := by
  pointwise [rows]
  rw [place, table_eq]
  show Scalar.select (IntOp.cmpi .slt (BitVec.ofNat 32 (owner t).val) 0#32) _ _ = _
  rw [(row_tests (owner t)).1]
  rfl

/-- A conjunction of ones, started at one, is one. -/
theorem fold_ones {ι : Type} (s : Finset ι) : Finset.fold IntOp.andi (1#1) (fun _ => 1#1) s = 1#1 := by
  classical
  induction s using Finset.induction_on with
  | empty => rfl
  | insert a s h ih => rw [Finset.fold_insert h, ih]; rfl

/-- Every start row lies inside the array. -/
theorem inside_at (t : Fin 4096) : inside (ix1 t) = 1#1 := by
  have hr := rows_at t
  obtain ⟨-, h1, h2, -⟩ := row_tests (owner t)
  have e : Scalar.select (IntOp.cmpi CmpIPredicate.slt (lit0 (S4096.rowMajor (ix1 t))) 0#32)
      (IntOp.addi (lit0 (S4096.rowMajor (ix1 t))) 256#32) (lit0 (S4096.rowMajor (ix1 t))) = BitVec.ofNat 32 (owner t).val := by
    rw [← hr]; pointwise [rows]
  pointwise [inside]
  rw [e, h1, h2]
  exact fold_ones _

/-- The gather at `(b, t, d)` reads the operand at the start row of slot `t`, when that row is one of the 256. -/
theorem gather_at (x : FVec Ideal S16x256x128 .f32) (idx : IVec S4096x1 32) (b : Fin 16) (t : Fin 4096) (d : Fin 128) (n : Fin 256)
    (h : idx (ix2 t 0) = BitVec.ofNat 32 n.val) :
    Host.gather gather_S16x256x128_S4096x1_S16x4096x128_02_1_n_n_1_1_161128 x idx (ix3 b t d) = x (ix3 b n d) := by
  unfold Host.gather
  refine congrArg x (funext fun a => Fin.ext ?_)
  match a with
  | ⟨0, _⟩ =>
    show 0 + 0 + b.val = b.val
    omega
  | ⟨1, _⟩ =>
    have e : gather_S16x256x128_S4096x1_S16x4096x128_02_1_n_n_1_1_161128.siIdx (ix3 b t d) ⟨0, by decide⟩ = ix2 t 0 := by
      funext c
      match c with
      | ⟨0, _⟩ => rfl
      | ⟨1, _⟩ => rfl
    show min (idx (gather_S16x256x128_S4096x1_S16x4096x128_02_1_n_n_1_1_161128.siIdx (ix3 b t d) ⟨0, by decide⟩)).toInt.toNat 255 + 0 + 0 = n.val
    rw [e, h, (row_tests n).2.2.2]
    have := n.isLt
    omega
  | ⟨2, _⟩ =>
    show 0 + 0 + d.val = d.val
    omega

/-- What the reference takes for each slot: its owner's features. -/
abbrev taken (x : FVec Ideal S16x256x128 .f32) : FVec Ideal S16x4096x128 .f32 :=
  select (broadcastInDim S16x4096x128 ![1] bcast_S4096_S16x4096x128_1 inside) (Host.gather gather_S16x256x128_S4096x1_S16x4096x128_02_1_n_n_1_1_161128 x rows) (broadcastInDim S16x4096x128 ![] bcast_S_S16x4096x128 (constant S_ .f32 0x7FC00000#32))

/-- What the reference takes for slot `t` is the feature row of its owner. -/
theorem taken_at (x : FVec Ideal S16x256x128 .f32) (b : Fin 16) (t : Fin 4096) (d : Fin 128) :
    taken x (ix3 b t d) = x (ix3 b (owner t) d) := by
  have e : broadcastInDim S16x4096x128 ![1] bcast_S4096_S16x4096x128_1 inside (ix3 b t d) = inside (ix1 t) := by
    pointwise []
  show Scalar.select (broadcastInDim S16x4096x128 ![1] bcast_S4096_S16x4096x128_1 inside (ix3 b t d)) (Host.gather _ x rows (ix3 b t d)) _ = _
  rw [e, inside_at, gather_at x rows b t d (owner t) (rows_at t)]
  rfl

/-- The reference's result from what it takes. -/
abbrev layers (X : FVec Ideal S16x4096x128 .f32) (E : FVec Ideal S16x4096x64 .f32) (W1 : FVec Ideal S192x128 .f32) (b1 : FVec Ideal S128 .f32)
    (W2 : FVec Ideal S128x64 .f32) (b2 : FVec Ideal S64 .f32) (W3 : FVec Ideal S64x1 .f32) (b3 : FVec Ideal S1 .f32) : FVec Ideal S16x4096 .f32 :=
  shapeCast S16x4096 (addf (Host.dotGeneral dot_S16x4096x64_S64x1_S16x4096x1_2_0_01_1_n_n none (maximumf (addf (Host.dotGeneral dot_S16x4096x128_S128x64_S16x4096x64_2_0_01_1_n_n none (maximumf (addf (Host.dotGeneral dot_S16x4096x192_S192x128_S16x4096x128_2_0_01_1_n_n none (concatenate S16x4096x192 2 [⟨S16x4096x128, X⟩, ⟨S16x4096x64, E⟩] concatenates_S16x4096x128_S16x4096x64_S16x4096x192_d2) W1) (broadcastInDim S16x4096x128 ![0, 1, 2] bcast_S1x1x128_S16x4096x128_0_1_2 (broadcastInDim S1x1x128 ![2] bcast_S128_S1x1x128_2 b1))) (broadcastInDim S16x4096x128 ![] bcast_S_S16x4096x128 (constant S_ .f32 0x00000000#32))) W2) (broadcastInDim S16x4096x64 ![0, 1, 2] bcast_S1x1x64_S16x4096x64_0_1_2 (broadcastInDim S1x1x64 ![2] bcast_S64_S1x1x64_2 b2))) (broadcastInDim S16x4096x64 ![] bcast_S_S16x4096x64 (constant S_ .f32 0x00000000#32))) W3) (broadcastInDim S16x4096x1 ![0, 1, 2] bcast_S1x1x1_S16x4096x1_0_1_2 (broadcastInDim S1x1x1 ![2] bcast_S1_S1x1x1_2 b3))) shapeCasts_S16x4096x1_S16x4096

/-- The layers at slot `(b, t)`: the first layer's sum over the 192 joined features is one over the 128 taken features plus one over
    the slot's own 64. -/
theorem layers_at (X : FVec Ideal S16x4096x128 .f32) (E : FVec Ideal S16x4096x64 .f32) (W1 : FVec Ideal S192x128 .f32) (b1 : FVec Ideal S128 .f32)
    (W2 : FVec Ideal S128x64 .f32) (b2 : FVec Ideal S64 .f32) (W3 : FVec Ideal S64x1 .f32) (b3 : FVec Ideal S1 .f32) (b : Fin 16) (t : Fin 4096) :
    layers X E W1 b1 W2 b2 W3 b3 (ix2 b t)
      = upper (fun j => ∑ d : Fin 128, X (ix3 b t d) * W1 (ix2 ⟨d.val, by omega⟩ j)
            + ∑ e : Fin 64, E (ix3 b t e) * W1 (ix2 ⟨128 + e.val, by omega⟩ j) + b1 (ix1 j))
          (fun j k => W2 (ix2 j k)) (fun k => b2 (ix1 k)) (fun k => W3 (ix2 k 0)) (b3 (ix1 0)) := by
  pointwise [layers]
  rfl

/-- The reference's result at slot `(b, t)`. -/
theorem result_at (x : FVec Ideal S16x256x128 .f32) (E : FVec Ideal S16x4096x64 .f32) (W1 : FVec Ideal S192x128 .f32) (b1 : FVec Ideal S128 .f32)
    (W2 : FVec Ideal S128x64 .f32) (b2 : FVec Ideal S64 .f32) (W3 : FVec Ideal S64x1 .f32) (b3 : FVec Ideal S1 .f32) (b : Fin 16) (t : Fin 4096) :
    layers (taken x) E W1 b1 W2 b2 W3 b3 (ix2 b t)
      = slot x E W1 b1 W2 b2 W3 b3 b t := by
  rw [layers_at]
  simp only [taken_at]
  rfl

end Cert.ReferenceIdeal.Math
end
-- ==== Proof.Equation.lean ====
/- The kernel's flattened array is the reference's result. -/
module

public import proofs.«01_k».proof.Proof.ArrayValue
public import proofs.«01_k».proof.Proof.RefValue

@[expose] public section

set_option maxRecDepth 16384

noncomputable section

namespace Cert.Math

open Cert.KernelIdeal Cert.KernelIdeal.Gen Cert.KernelIdeal.Math Cert.ReferenceIdeal.Math Idealize.ShloMosaic

/-- Flattening the kernel's array of tiles gives the reference's array of slots, for all arguments. -/
theorem equation (H : FVec Ideal S16x256x128 .f32) (E : FVec Ideal S16x4096x64 .f32) (W1 : FVec Ideal S192x128 .f32) (b1 : FVec Ideal S128 .f32)
    (W2 : FVec Ideal S128x64 .f32) (b2 : FVec Ideal S64 .f32) (W3 : FVec Ideal S64x1 .f32) (b3 : FVec Ideal S1 .f32) :
    shapeCast S16x4096 (cells H E W1 b1 W2 b2 W3 b3) shapeCasts_S16x8x1x512_S16x4096 = layers (taken H) E W1 b1 W2 b2 W3 b3 := by
  funext i
  idx_vars i
  refine Eq.trans ?_ (result_at H E W1 b1 W2 b2 W3 b3 _ _).symm
  pointwise []
  refine congrArg (slot H E W1 b1 W2 b2 W3 b3 i0) (Fin.ext ?_)
  show 512 * (i1.val / 512) + i1.val % 512 = i1.val
  omega

end Cert.Math
end
-- ==== Proof.KernelRun.lean ====
/- The kernel's run: its result is the flattened slot values, its arguments end as launched. -/
module

public import proofs.«01_k».proof.Proof.ArrayValue

@[expose] public section

set_option maxRecDepth 16384

noncomputable section

namespace Cert.KernelIdeal.Math

open Cert.KernelIdeal Cert.KernelIdeal.Gen Idealize.ShloMosaic Idealize.ShloMosaic.TcCoe Idealize.SL.Sem

/-- Every execution of the kernel ends with the slot values, flattened, in its result and with its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = shapeCast S16x4096 (result m c) shapeCasts_S16x8x1x512_S16x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (Gen.frame m ρ)) fun r h c =>
    ⟨((h.1 c).2 main_v0 (Pipeline.mem_restRefs_of main_v0 (by decide) (by decide))).trans (tail m c), h.2.1 c⟩

end Cert.KernelIdeal.Math
end
-- ==== Proof.RefRun.lean ====
/- The reference's run: its result is the layers over what it takes, its arguments end as launched and no counter is raised. -/
module

public import proofs.«01_k».proof.Proof.RefValue
public import Idealize.ShloMosaic.Lib.Claim

@[expose] public section

set_option maxRecDepth 16384

noncomputable section

namespace Cert.ReferenceIdeal.Math

open Cert.ReferenceIdeal Cert.ReferenceIdeal.Gen Idealize.ShloMosaic Idealize.ShloMosaic.TcCoe Idealize.SL.Sem

/-- Every execution of the reference ends with the layers' term in its result and with its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
        = layers (taken (m ((c.tc : Thread nD τ).loc main_arg0))) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.ReferenceIdeal.Value.run m ρ

end Cert.ReferenceIdeal.Math
end
-- ==== Proof.lean ====
/- The five claims of this directory, put together from the runs of the two programs and the equation between their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.KernelRun
public import proofs.«01_k».proof.Proof.RefRun
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The five claims: the three programs leave their arguments and counters as they were, the idealized kernel is the kernel, and the idealized
    kernel's result is the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => θ_run_mono (Cert.ReferenceIdeal.Math.run m ρ) fun r h =>
    ⟨fun c => (h c).2, Idealize.ShloMosaic.sem_eq_zero_of_no_sems (by decide) r.2⟩,
  trivial,
  fun m g m' g' _ hagree => ⟨_, Cert.KernelIdeal.Math.run m g, θ_run_mono (Cert.ReferenceIdeal.Math.run m' g') fun r h c =>
    ⟨(h c).1.trans (by
      obtain ⟨e0, e1, e2, e3, e4, e5, e6, e7⟩ := hagree c
      rw [e0, e1, e2, e3, e4, e5, e6, e7]
      exact (Cert.Math.equation _ _ _ _ _ _ _ _).symm), (h c).2⟩⟩⟩

end Cert.Proof

end
